-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S64x2048x1 : Shape := ⟨3, ![64, 2048, 1]⟩
abbrev S1x100 : Shape := ⟨2, ![1, 100]⟩
abbrev S100 : Shape := ⟨1, ![100]⟩
abbrev S100x100 : Shape := ⟨2, ![100, 100]⟩
abbrev S100x128 : Shape := ⟨2, ![100, 128]⟩
abbrev S1x128 : Shape := ⟨2, ![1, 128]⟩
abbrev S_ : Shape := ⟨0, ![]⟩

class Facts : Prop where
  bcast_S_S64x2048x1 : S_.BroadcastsInDim S64x2048x1 (![] : Fin 0 → Fin S64x2048x1.rank)
  bcast_S_S1x100 : S_.BroadcastsInDim S1x100 (![] : Fin 0 → Fin S1x100.rank)
  bcast_S_S100 : S_.BroadcastsInDim S100 (![] : Fin 0 → Fin S100.rank)
  bcast_S_S100x100 : S_.BroadcastsInDim S100x100 (![] : Fin 0 → Fin S100x100.rank)

variable [Facts]

def fn_part1 {F : FTy → Type} [FloatOps F] (main_arg4 : FVec F S100 .f32) (main_v4 : IVec S64x2048x1 1) (main_v9 : IVec S1x100 1) (main_v11 : IVec S100 1) (main_v16 : IVec S100x100 1) : IVec S64x2048x1 1 × IVec S1x100 1 × IVec S100 1 × IVec S100x100 1 × IVec S100 1 :=
  let main_cst_6 : FVec F S_ .f32 := constant S_ .f32 0xFF800000#32
  let main_v17 : FVec F S100 .f32 := broadcastInDim S100 ![] bcast_S_S100 main_cst_6
  let main_v18 : IVec S100 1 := cmpf .ogt main_arg4 main_v17
  let main_cst_7 : FVec F S_ .f32 := constant S_ .f32 0x7F800000#32
  let main_v19 : FVec F S100 .f32 := broadcastInDim S100 ![] bcast_S_S100 main_cst_7
  let main_v20 : IVec S100 1 := cmpf .olt main_arg4 main_v19
  let main_v21 : IVec S100 1 := andi main_v18 main_v20
  (main_v4, main_v9, main_v11, main_v16, main_v21)

def fn {F : FTy → Type} [FloatOps F] (main_arg0 : FVec F S64x2048x1 .f32) (main_arg1 : FVec F S1x100 .f32) (main_arg2 : FVec F S100 .f32) (main_arg3 : FVec F S100x100 .f32) (main_arg4 : FVec F S100 .f32) (main_arg5 : FVec F S100x128 .f32) (main_arg6 : FVec F S1x128 .f32) (main_arg7 : FVec F S1x128 .f32) : IVec S64x2048x1 1 × IVec S1x100 1 × IVec S100 1 × IVec S100x100 1 × IVec S100 1 :=
  let main_cst : FVec F S_ .f32 := constant S_ .f32 0x00000000#32
  let main_v0 : FVec F S64x2048x1 .f32 := broadcastInDim S64x2048x1 ![] bcast_S_S64x2048x1 main_cst
  let main_v1 : IVec S64x2048x1 1 := cmpf .oge main_arg0 main_v0
  let main_cst_0 : FVec F S_ .f32 := constant S_ .f32 0x7F800000#32
  let main_v2 : FVec F S64x2048x1 .f32 := broadcastInDim S64x2048x1 ![] bcast_S_S64x2048x1 main_cst_0
  let main_v3 : IVec S64x2048x1 1 := cmpf .olt main_arg0 main_v2
  let main_v4 : IVec S64x2048x1 1 := andi main_v1 main_v3
  let main_cst_1 : FVec F S_ .f32 := constant S_ .f32 0xFF800000#32
  let main_v5 : FVec F S1x100 .f32 := broadcastInDim S1x100 ![] bcast_S_S1x100 main_cst_1
  let main_v6 : IVec S1x100 1 := cmpf .ogt main_arg1 main_v5
  let main_cst_2 : FVec F S_ .f32 := constant S_ .f32 0x7F800000#32
  let main_v7 : FVec F S1x100 .f32 := broadcastInDim S1x100 ![] bcast_S_S1x100 main_cst_2
  let main_v8 : IVec S1x100 1 := cmpf .olt main_arg1 main_v7
  let main_v9 : IVec S1x100 1 := andi main_v6 main_v8
  let main_cst_3 : FVec F S_ .f32 := constant S_ .f32 0x00000000#32
  let main_v10 : FVec F S100 .f32 := broadcastInDim S100 ![] bcast_S_S100 main_cst_3
  let main_v11 : IVec S100 1 := cmpf .oeq main_arg2 main_v10
  let main_cst_4 : FVec F S_ .f32 := constant S_ .f32 0xFF800000#32
  let main_v12 : FVec F S100x100 .f32 := broadcastInDim S100x100 ![] bcast_S_S100x100 main_cst_4
  let main_v13 : IVec S100x100 1 := cmpf .ogt main_arg3 main_v12
  let main_cst_5 : FVec F S_ .f32 := constant S_ .f32 0x7F800000#32
  let main_v14 : FVec F S100x100 .f32 := broadcastInDim S100x100 ![] bcast_S_S100x100 main_cst_5
  let main_v15 : IVec S100x100 1 := cmpf .olt main_arg3 main_v14
  let main_v16 : IVec S100x100 1 := andi main_v13 main_v15
  fn_part1 (F := F) main_arg4 main_v4 main_v9 main_v11 main_v16
-- ==== Kernel.lean ====
abbrev S64x2048x1 : Shape := ⟨3, ![64, 2048, 1]⟩
abbrev S1x100 : Shape := ⟨2, ![1, 100]⟩
abbrev S100 : Shape := ⟨1, ![100]⟩
abbrev S100x100 : Shape := ⟨2, ![100, 100]⟩
abbrev S100x128 : Shape := ⟨2, ![100, 128]⟩
abbrev S1x128 : Shape := ⟨2, ![1, 128]⟩
abbrev S_ : Shape := ⟨0, ![]⟩
abbrev S1 : Shape := ⟨1, ![1]⟩
abbrev S2x128 : Shape := ⟨2, ![2, 128]⟩
abbrev S128x128 : Shape := ⟨2, ![128, 128]⟩
abbrev S131072x1 : Shape := ⟨2, ![131072, 1]⟩
abbrev S131072x2 : Shape := ⟨2, ![131072, 2]⟩
abbrev S131072x128 : Shape := ⟨2, ![131072, 128]⟩
abbrev S2048x2 : Shape := ⟨2, ![2048, 2]⟩
abbrev S2048x128 : Shape := ⟨2, ![2048, 128]⟩
abbrev S64x2048x128 : Shape := ⟨3, ![64, 2048, 128]⟩

abbrev nBuf : Space → Nat
  | .hbm => 60
  | .vmem => 7
  | .smem => 0
  | _ => 0

abbrev bufTy : (tb : Table) → Fin (tcTables nBuf tb) → BufTy
  | .hbm, ⟨0, _⟩ => ⟨S64x2048x1, .f32⟩
  | .hbm, ⟨1, _⟩ => ⟨S1x100, .f32⟩
  | .hbm, ⟨2, _⟩ => ⟨S100, .f32⟩
  | .hbm, ⟨3, _⟩ => ⟨S100x100, .f32⟩
  | .hbm, ⟨4, _⟩ => ⟨S100, .f32⟩
  | .hbm, ⟨5, _⟩ => ⟨S100x128, .f32⟩
  | .hbm, ⟨6, _⟩ => ⟨S1x128, .f32⟩
  | .hbm, ⟨7, _⟩ => ⟨S1x128, .f32⟩
  | .hbm, ⟨8, _⟩ => ⟨S100x100, .i32⟩
  | .hbm, ⟨9, _⟩ => ⟨S100x100, .i32⟩
  | .hbm, ⟨10, _⟩ => ⟨S_, .i32⟩
  | .hbm, ⟨11, _⟩ => ⟨S100x100, .i32⟩
  | .hbm, ⟨12, _⟩ => ⟨S100x100, .i32⟩
  | .hbm, ⟨13, _⟩ => ⟨S100x100, .i1⟩
  | .hbm, ⟨14, _⟩ => ⟨S100x100, .f32⟩
  | .hbm, ⟨15, _⟩ => ⟨S_, .f32⟩
  | .hbm, ⟨16, _⟩ => ⟨S100x100, .f32⟩
  | .hbm, ⟨17, _⟩ => ⟨S100x100, .f32⟩
  | .hbm, ⟨18, _⟩ => ⟨S100x100, .f32⟩
  | .hbm, ⟨19, _⟩ => ⟨S_, .f32⟩
  | .hbm, ⟨20, _⟩ => ⟨S1x100, .f32⟩
  | .hbm, ⟨21, _⟩ => ⟨S1x100, .i1⟩
  | .hbm, ⟨22, _⟩ => ⟨S_, .f32⟩
  | .hbm, ⟨23, _⟩ => ⟨S1x100, .f32⟩
  | .hbm, ⟨24, _⟩ => ⟨S1x100, .f32⟩
  | .hbm, ⟨25, _⟩ => ⟨S1x100, .f32⟩
  | .hbm, ⟨26, _⟩ => ⟨S1x100, .f32⟩
  | .hbm, ⟨27, _⟩ => ⟨S1x100, .f32⟩
  | .hbm, ⟨28, _⟩ => ⟨S_, .f32⟩
  | .hbm, ⟨29, _⟩ => ⟨S1x128, .f32⟩
  | .hbm, ⟨30, _⟩ => ⟨S_, .f32⟩
  | .hbm, ⟨31, _⟩ => ⟨S_, .f32⟩
  | .hbm, ⟨32, _⟩ => ⟨S1x100, .f32⟩
  | .hbm, ⟨33, _⟩ => ⟨S1x100, .f32⟩
  | .hbm, ⟨34, _⟩ => ⟨S_, .i32⟩
  | .hbm, ⟨35, _⟩ => ⟨S1, .i32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S_, .f32⟩
  | .hbm, ⟨40, _⟩ => ⟨S_, .f32⟩
  | .hbm, ⟨41, _⟩ => ⟨S1x100, .f32⟩
  | .hbm, ⟨42, _⟩ => ⟨S1x100, .f32⟩
  | .hbm, ⟨43, _⟩ => ⟨S_, .i32⟩
  | .hbm, ⟨44, _⟩ => ⟨S1, .i32⟩
  | .hbm, ⟨45, _⟩ => ⟨S1x128, .f32⟩
  | .hbm, ⟨46, _⟩ => ⟨S2x128, .f32⟩
  | .hbm, ⟨47, _⟩ => ⟨S_, .f32⟩
  | .hbm, ⟨48, _⟩ => ⟨S128x128, .f32⟩
  | .hbm, ⟨49, _⟩ => ⟨S_, .i32⟩
  | .hbm, ⟨50, _⟩ => ⟨S1, .i32⟩
  | .hbm, ⟨51, _⟩ => ⟨S128x128, .f32⟩
  | .hbm, ⟨52, _⟩ => ⟨S_, .f32⟩
  | .hbm, ⟨53, _⟩ => ⟨S128x128, .f32⟩
  | .hbm, ⟨54, _⟩ => ⟨S131072x1, .f32⟩
  | .hbm, ⟨55, _⟩ => ⟨S_, .f32⟩
  | .hbm, ⟨56, _⟩ => ⟨S131072x1, .f32⟩
  | .hbm, ⟨57, _⟩ => ⟨S131072x2, .f32⟩
  | .hbm, ⟨58, _⟩ => ⟨S131072x128, .f32⟩
  | .hbm, ⟨59, _⟩ => ⟨S64x2048x128, .f32⟩
  | .local _ .vmem, ⟨0, _⟩ => ⟨S2048x2, .f32⟩
  | .local _ .vmem, ⟨1, _⟩ => ⟨S2048x2, .f32⟩
  | .local _ .vmem, ⟨2, _⟩ => ⟨S2x128, .f32⟩
  | .local _ .vmem, ⟨3, _⟩ => ⟨S128x128, .f32⟩
  | .local _ .vmem, ⟨4, _⟩ => ⟨S128x128, .f32⟩
  | .local _ .vmem, ⟨5, _⟩ => ⟨S2048x128, .f32⟩
  | .local _ .vmem, ⟨6, _⟩ => ⟨S2048x128, .f32⟩
  | _, _ => ⟨S64x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_c_9 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S64x2048x1 : Shape := ⟨3, ![64, 2048, 1]⟩
abbrev S1x100 : Shape := ⟨2, ![1, 100]⟩
abbrev S100 : Shape := ⟨1, ![100]⟩
abbrev S100x100 : Shape := ⟨2, ![100, 100]⟩
abbrev S100x128 : Shape := ⟨2, ![100, 128]⟩
abbrev S1x128 : Shape := ⟨2, ![1, 128]⟩
abbrev S64x2048 : Shape := ⟨2, ![64, 2048]⟩
abbrev S_ : Shape := ⟨0, ![]⟩
abbrev S64x2048x100 : Shape := ⟨3, ![64, 2048, 100]⟩
abbrev S1x1x100 : Shape := ⟨3, ![1, 1, 100]⟩
abbrev S100x1 : Shape := ⟨2, ![100, 1]⟩
abbrev S1 : Shape := ⟨1, ![1]⟩
abbrev S1x1 : Shape := ⟨2, ![1, 1]⟩
abbrev S64x2048x128 : Shape := ⟨3, ![64, 2048, 128]⟩
abbrev S128 : Shape := ⟨1, ![128]⟩

abbrev nBuf : Space → Nat
  | .hbm => 85
  | .vmem => 0
  | .smem => 0
  | _ => 0

abbrev bufTy : (tb : Table) → Fin (tcTables nBuf tb) → BufTy
  | .hbm, ⟨0, _⟩ => ⟨S64x2048x1, .f32⟩
  | .hbm, ⟨1, _⟩ => ⟨S1x100, .f32⟩
  | .hbm, ⟨2, _⟩ => ⟨S100, .f32⟩
  | .hbm, ⟨3, _⟩ => ⟨S100x100, .f32⟩
  | .hbm, ⟨4, _⟩ => ⟨S100, .f32⟩
  | .hbm, ⟨5, _⟩ => ⟨S100x128, .f32⟩
  | .hbm, ⟨6, _⟩ => ⟨S1x128, .f32⟩
  | .hbm, ⟨7, _⟩ => ⟨S1x128, .f32⟩
  | .hbm, ⟨8, _⟩ => ⟨S64x2048, .f32⟩
  | .hbm, ⟨9, _⟩ => ⟨S_, .f32⟩
  | .hbm, ⟨10, _⟩ => ⟨S64x2048, .f32⟩
  | .hbm, ⟨11, _⟩ => ⟨S64x2048, .i1⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S64x2048, .i1⟩
  | .hbm, ⟨16, _⟩ => ⟨S64x2048x100, .f32⟩
  | .hbm, ⟨17, _⟩ => ⟨S1x1x100, .f32⟩
  | .hbm, ⟨18, _⟩ => ⟨S64x2048x100, .f32⟩
  | .hbm, ⟨19, _⟩ => ⟨S64x2048x100, .f32⟩
  | .hbm, ⟨20, _⟩ => ⟨S_, .f32⟩
  | .hbm, ⟨21, _⟩ => ⟨S_, .f32⟩
  | .hbm, ⟨22, _⟩ => ⟨S64x2048x100, .f32⟩
  | .hbm, ⟨23, _⟩ => ⟨S64x2048x100, .i1⟩
  | .hbm, ⟨24, _⟩ => ⟨S_, .f32⟩
  | .hbm, ⟨25, _⟩ => ⟨S64x2048x100, .f32⟩
  | .hbm, ⟨26, _⟩ => ⟨S64x2048x100, .f32⟩
  | .hbm, ⟨27, _⟩ => ⟨S64x2048x100, .f32⟩
  | .hbm, ⟨28, _⟩ => ⟨S64x2048x100, .f32⟩
  | .hbm, ⟨29, _⟩ => ⟨S1x1x100, .f32⟩
  | .hbm, ⟨30, _⟩ => ⟨S64x2048x100, .f32⟩
  | .hbm, ⟨31, _⟩ => ⟨S64x2048x100, .f32⟩
  | .hbm, ⟨32, _⟩ => ⟨S_, .f32⟩
  | .hbm, ⟨33, _⟩ => ⟨S64x2048x100, .f32⟩
  | .hbm, ⟨34, _⟩ => ⟨S64x2048x100, .f32⟩
  | .hbm, ⟨35, _⟩ => ⟨S64x2048x100, .f32⟩
  | .hbm, ⟨36, _⟩ => ⟨S_, .f32⟩
  | .hbm, ⟨37, _⟩ => ⟨S64x2048, .f32⟩
  | .hbm, ⟨38, _⟩ => ⟨S_, .f32⟩
  | .hbm, ⟨39, _⟩ => ⟨S64x2048, .f32⟩
  | .hbm, ⟨40, _⟩ => ⟨S64x2048, .f32⟩
  | .hbm, ⟨41, _⟩ => ⟨S64x2048x1, .f32⟩
  | .hbm, ⟨42, _⟩ => ⟨S64x2048x100, .f32⟩
  | .hbm, ⟨43, _⟩ => ⟨S64x2048x100, .f32⟩
  | .hbm, ⟨44, _⟩ => ⟨S64x2048x100, .f32⟩
  | .hbm, ⟨45, _⟩ => ⟨S_, .f32⟩
  | .hbm, ⟨46, _⟩ => ⟨S64x2048, .f32⟩
  | .hbm, ⟨47, _⟩ => ⟨S64x2048x1, .f32⟩
  | .hbm, ⟨48, _⟩ => ⟨S64x2048x100, .f32⟩
  | .hbm, ⟨49, _⟩ => ⟨S64x2048x100, .f32⟩
  | .hbm, ⟨50, _⟩ => ⟨S100, .i32⟩
  | .hbm, ⟨51, _⟩ => ⟨S_, .i32⟩
  | .hbm, ⟨52, _⟩ => ⟨S100, .i32⟩
  | .hbm, ⟨53, _⟩ => ⟨S100, .i1⟩
  | .hbm, ⟨54, _⟩ => ⟨S_, .i32⟩
  | .hbm, ⟨55, _⟩ => ⟨S100, .i32⟩
  | .hbm, ⟨56, _⟩ => ⟨S100, .i32⟩
  | .hbm, ⟨57, _⟩ => ⟨S100, .i32⟩
  | .hbm, ⟨58, _⟩ => ⟨S100x1, .i32⟩
  | .hbm, ⟨59, _⟩ => ⟨S1, .i32⟩
  | .hbm, ⟨60, _⟩ => ⟨S_, .i32⟩
  | .hbm, ⟨61, _⟩ => ⟨S100x1, .i32⟩
  | .hbm, ⟨62, _⟩ => ⟨S100x1, .i1⟩
  | .hbm, ⟨63, _⟩ => ⟨S1x1, .i32⟩
  | .hbm, ⟨64, _⟩ => ⟨S100x1, .i32⟩
  | .hbm, ⟨65, _⟩ => ⟨S100x1, .i1⟩
  | .hbm, ⟨66, _⟩ => ⟨S100x1, .i1⟩
  | .hbm, ⟨67, _⟩ => ⟨S_, .i1⟩
  | .hbm, ⟨68, _⟩ => ⟨S100, .i1⟩
  | .hbm, ⟨69, _⟩ => ⟨S100x128, .f32⟩
  | .hbm, ⟨70, _⟩ => ⟨S100x128, .i1⟩
  | .hbm, ⟨71, _⟩ => ⟨S_, .f32⟩
  | .hbm, ⟨72, _⟩ => ⟨S100x128, .f32⟩
  | .hbm, ⟨73, _⟩ => ⟨S100x128, .f32⟩
  | .hbm, ⟨74, _⟩ => ⟨S64x2048x128, .f32⟩
  | .hbm, ⟨75, _⟩ => ⟨S64x2048x1, .i1⟩
  | .hbm, ⟨76, _⟩ => ⟨S128, .f32⟩
  | .hbm, ⟨77, _⟩ => ⟨S64x2048x128, .i1⟩
  | .hbm, ⟨78, _⟩ => ⟨S64x2048x128, .f32⟩
  | .hbm, ⟨79, _⟩ => ⟨S64x2048x128, .f32⟩
  | .hbm, ⟨80, _⟩ => ⟨S64x2048x1, .i1⟩
  | .hbm, ⟨81, _⟩ => ⟨S128, .f32⟩
  | .hbm, ⟨82, _⟩ => ⟨S64x2048x128, .i1⟩
  | .hbm, ⟨83, _⟩ => ⟨S64x2048x128, .f32⟩
  | .hbm, ⟨84, _⟩ => ⟨S64x2048x128, .f32⟩
  | _, _ => ⟨S64x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_call2_v0 : Ref sig .tc := ⟨.hbm, 77, rfl⟩
abbrev main_call2_v1 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call3_v0 : Ref sig .tc := ⟨.hbm, 82, rfl⟩
abbrev main_call3_v1 : Ref sig .tc := ⟨.hbm, 83, rfl⟩
abbrev main_v37 : Ref sig .tc := ⟨.hbm, 84, rfl⟩

abbrev nD : Nat := 1
abbrev τ : Topo := Topo.v7x

variable {F : FTy → Type} [FloatOps F]
-- ==== Proof.KernelBlock.lean ====
/-
  What one block of the kernel computes, at one entry: the quotient of two sums over 128 lanes of exponentials, the
  exponent of a lane being the input times its slope plus its offset, with −∞ as the offset of a lane from 100 on.
-/
module

public import proofs.«01_k».proof.Defs
public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelBlock

open Idealize.ShloMosaic Cert.KernelIdeal

/-- A lane's exponent: `p`, `q` the row's two inputs, `C` the two rows of coefficients. -/
def exponent (C : FVec Ideal S2x128 .f32) (p q : EReal) (k : Fin 128) : EReal :=
  p * C (ix2 0 k) + q * (if k.val < 100 then C (ix2 1 k) else ⊥)

/-- The quotient of the two lane sums, in column `d`. -/
def quotient (C : FVec Ideal S2x128 .f32) (E O : FVec Ideal S128x128 .f32) (p q : EReal) (d : Fin 128) : EReal :=
  Ideal.div (∑ k : Fin 128, Ideal.exp (exponent C p q k) * E (ix2 k d)) (∑ k : Fin 128, Ideal.exp (exponent C p q k) * O (ix2 k d))

/-- The kernel's test for the lanes to fill: never in the first row. -/
theorem fill_first (k : Fin 128) :
    IntOp.andi (IntOp.cmpi .eq (BitVec.ofNat 32 ((0 : Fin 2).val)) 1#32) (IntOp.cmpi .sge (BitVec.ofNat 32 k.val) 100#32) = 0#1 := by
  revert k
  decide +kernel

/-- In the second row, exactly the lanes from 100 on. -/
theorem fill_second (k : Fin 128) :
    IntOp.andi (IntOp.cmpi .eq (BitVec.ofNat 32 ((1 : Fin 2).val)) 1#32) (IntOp.cmpi .sge (BitVec.ofNat 32 k.val) 100#32)
      = if k.val < 100 then 0#1 else 1#1 := by
  revert k
  decide +kernel

/-- The stored value at row `r`, column `d` of a block. -/
theorem stored_at (C : FVec Ideal S2x128 .f32) (X : FVec Ideal S2048x2 .f32) (E O : FVec Ideal S128x128 .f32) (r : Fin 2048) (d : Fin 128) :
    Gen.k0_pay1 (F := Ideal) C X E O (ix2 r d) = quotient C E O (X (ix2 r 0)) (X (ix2 r 1)) d := by
  have e : ∀ k : Fin 128, (∑ a : Fin 2, X (ix2 r a) * Scalar.select
      (IntOp.andi (IntOp.cmpi .eq (BitVec.ofNat 32 a.val) 1#32) (IntOp.cmpi .sge (BitVec.ofNat 32 k.val) 100#32))
      (Named.named κ "mask" 0xF149F2CA#32) (C (ix2 a k))) = exponent C (X (ix2 r 0)) (X (ix2 r 1)) k := by
    intro k
    rw [Fin.sum_univ_two, fill_first, fill_second]
    unfold exponent
    split <;> rfl
  pointwise [Gen.k0_pay1]
  simp only [e]
  rfl

end Cert.KernelBlock

end
-- ==== Proof.Padded.lean ====
/-
  A block written into the corner of a larger matrix. `zeros.at[:r, :c].set(u)` prints as a `stablehlo.scatter` whose
  one index word is the literal 0 and whose window is the whole update `u`; here it is read at an entry: `u`'s entry
  where the position lies inside `u`, the operand's entry elsewhere. Nothing here names a program.
-/
module

public import Idealize.ShloMosaic.Lib.Routing.OpsPair
public import Idealize.ShloMosaic.Lib.Routing.OpsSet

@[expose] public section

namespace Cert.Padded

open Idealize.ShloMosaic Idealize.ShloMosaic.Routing Idealize.ShloMosaic.ValueIdx

variable {R C R' C' : Nat}

/-- Where every index word is 0, each update starts at 0 on both axes. -/
theorem start_zero {w : Nat} {si u : Shape} (d : ScatterDims (shape2 R C) si u) (idx : IVec si w) (h0 : ∀ i, idx i = 0#w)
    (k : u.Idx) (a : Fin 2) : d.start k idx a = 0 := by
  unfold ScatterDims.start
  split
  · rw [h0]; exact BitVec.toInt_zero
  · rfl

/-- With both update axes window axes and no axis inserted, the window coordinate on an axis is the update's own. -/
theorem window_eq {si : Shape} (d : ScatterDims (shape2 R C) si (shape2 R' C')) (hu : d.updateWindowDims = [0, 1])
    (hi : d.insertedWindowDims = []) (p : Fin R') (q : Fin C') :
    d.window (ix2 p q) 0 = p.val ∧ d.window (ix2 p q) 1 = q.val := by
  obtain ⟨uw, iw, sd, iv, wf⟩ := d
  obtain rfl : uw = [0, 1] := hu
  obtain rfl : iw = [] := hi
  exact ⟨rfl, rfl⟩

/-- Update `(p, q)` lands at `(i, j)` exactly when the two positions agree. -/
theorem lands {w : Nat} {si : Shape} (d : ScatterDims (shape2 R C) si (shape2 R' C')) (hu : d.updateWindowDims = [0, 1])
    (hi : d.insertedWindowDims = []) (idx : IVec si w) (h0 : ∀ i, idx i = 0#w) (p : Fin R') (q : Fin C') (i : Fin R) (j : Fin C) :
    d.resultIdx? (ix2 p q) idx = some (ix2 i j) ↔ p.val = i.val ∧ q.val = j.val := by
  rw [resultIdx?_ix2, start_zero d idx h0, start_zero d idx h0, (window_eq d hu hi p q).1, (window_eq d hu hi p q).2]
  omega

/-- The corner write at an entry inside the update's extents: the update's entry. -/
theorem scatter_inside {α : Type} {w : Nat} {si : Shape} (d : ScatterDims (shape2 R C) si (shape2 R' C'))
    (hu : d.updateWindowDims = [0, 1]) (hi : d.insertedWindowDims = []) (x : (shape2 R C).Idx → α) (idx : IVec si w)
    (h0 : ∀ i, idx i = 0#w) (u : (shape2 R' C').Idx → α) (i : Fin R) (j : Fin C) (hr : i.val < R') (hc : j.val < C') :
    Host.scatter d (fun _ b => b) x idx u (ix2 i j) = u (ix2 ⟨i.val, hr⟩ ⟨j.val, hc⟩) := by
  refine scatter_set_hit d x idx u _ _ (fun k hk => ?_) (ix2 ⟨i.val, hr⟩ ⟨j.val, hc⟩) ((lands d hu hi idx h0 _ _ i j).2 ⟨rfl, rfl⟩)
  rw [eq_ix2 k] at hk ⊢
  obtain ⟨h, h'⟩ := (lands d hu hi idx h0 (k 0) (k 1) i j).1 hk
  rw [Fin.ext (a := k 0) (b := ⟨i.val, hr⟩) h, Fin.ext (a := k 1) (b := ⟨j.val, hc⟩) h']
  rfl

/-- The corner write at an entry right of the update's last column: the operand's entry. -/
theorem scatter_right {α : Type} {w : Nat} {si : Shape} (d : ScatterDims (shape2 R C) si (shape2 R' C'))
    (hu : d.updateWindowDims = [0, 1]) (hi : d.insertedWindowDims = []) (x : (shape2 R C).Idx → α) (idx : IVec si w)
    (h0 : ∀ i, idx i = 0#w) (u : (shape2 R' C').Idx → α) (i : Fin R) (j : Fin C) (hc : ¬ j.val < C') :
    Host.scatter d (fun _ b => b) x idx u (ix2 i j) = x (ix2 i j) := by
  refine scatter_set_miss d x idx u _ fun k hk => ?_
  rw [eq_ix2 k] at hk
  exact hc (((lands d hu hi idx h0 (k 0) (k 1) i j).1 hk).2 ▸ (k 1).isLt)

/-- The corner write at an entry below the update's last row: the operand's entry. -/
theorem scatter_below {α : Type} {w : Nat} {si : Shape} (d : ScatterDims (shape2 R C) si (shape2 R' C'))
    (hu : d.updateWindowDims = [0, 1]) (hi : d.insertedWindowDims = []) (x : (shape2 R C).Idx → α) (idx : IVec si w)
    (h0 : ∀ i, idx i = 0#w) (u : (shape2 R' C').Idx → α) (i : Fin R) (j : Fin C) (hr : ¬ i.val < R') :
    Host.scatter d (fun _ b => b) x idx u (ix2 i j) = x (ix2 i j) := by
  refine scatter_set_miss d x idx u _ fun k hk => ?_
  rw [eq_ix2 k] at hk
  exact hr (((lands d hu hi idx h0 (k 0) (k 1) i j).1 hk).1 ▸ (k 0).isLt)

end Cert.Padded

end
-- ==== Proof.Softmax.lean ====
/-
  A softmax-weighted mean over the extended reals. The weights are exponentials of real logits; the averaged values are
  any extended reals. Shifting every logit by one real number scales numerator and denominator alike, so the quotient of
  the two sums is the sum of the normalised weights times the values. Nothing here names a program.
-/
module

public import Idealize.ShloMosaic.PureOps.Ideal
public import Mathlib.Data.EReal.Operations
public import Mathlib.Data.EReal.Inv

@[expose] public section

noncomputable section

namespace Cert.Softmax

open Idealize.ShloMosaic

/-- A finite sum of reals, each taken as an extended real, is their real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real factor that is not negative goes inside a finite sum of any extended reals. -/
theorem mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.2 hr) (EReal.coe_ne_top r), ih]

/-- The greatest of finitely many reals, folded from −∞ over the extended reals, is a real. -/
theorem fold_max_coe {ι : Type} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by rw [Finset.fold_singleton, max_bot_right]⟩
  | cons a s ha hs ih =>
    obtain ⟨M, hM⟩ := ih
    exact ⟨max (f a) M, by rw [Finset.fold_cons, hM, EReal.coe_strictMono.monotone.map_max]⟩

/-- The law. Logits `z`, two real shifts `s` and `t`, any values `v`: the sum of `exp(z − s) · v` divided by the sum of
    `exp(z − s)` is the sum of the weights `exp(z − t) / Σ exp(z − t)` times `v`. -/
theorem shift {n : Nat} (hn : 0 < n) (z : Fin n → ℝ) (s t : ℝ) (v : Fin n → EReal) :
    Ideal.div (∑ j, Ideal.exp ((z j - s : ℝ) : EReal) * v j) (∑ j, Ideal.exp ((z j - s : ℝ) : EReal))
      = ∑ j, Ideal.div (Ideal.exp ((z j - t : ℝ) : EReal)) (∑ j, Ideal.exp ((z j - t : ℝ) : EReal)) * v j := by
  haveI : Nonempty (Fin n) := ⟨⟨0, hn⟩⟩
  have pos (u : ℝ) : 0 < ∑ j, Real.exp (z j - u) := Finset.sum_pos (fun _ _ => Real.exp_pos _) Finset.univ_nonempty
  have q : ∀ j, Real.exp (z j - s) = Real.exp (t - s) * Real.exp (z j - t) := fun j => by
    rw [← Real.exp_add]; congr 1; ring
  simp only [Ideal.exp_coe, coe_sum]
  rw [Ideal.div_coe (pos s).ne', mul_comm, mul_sum _ _ (one_div_nonneg.2 (pos s).le)]
  refine Finset.sum_congr rfl fun j _ => ?_
  rw [Ideal.div_coe (pos t).ne', ← mul_assoc, ← EReal.coe_mul, ← EReal.coe_mul]
  congr 2
  have hsum : ∑ j, Real.exp (z j - s) = Real.exp (t - s) * ∑ j, Real.exp (z j - t) := by
    rw [Finset.mul_sum]; exact Finset.sum_congr rfl fun j _ => q j
  rw [hsum, q j]
  have h1 := (Real.exp_pos (t - s)).ne'
  have h2 := (pos t).ne'
  field_simp

end Cert.Softmax

end

end
-- ==== Proof.Maximum.lean ====
/-
  The maximum of finitely many reals, as a host reduction over the extended reals computes it from −∞, is a real. Stated
  for a reduction over any axes, then for a matrix stack's rows. Nothing here names a program.
-/
module

public import proofs.«01_k».proof.Proof.Softmax
public import Idealize.ShloMosaic.Lib.Pointwise

@[expose] public section

noncomputable section

namespace Cert.Maximum

open Idealize.ShloMosaic

/-- A reduction by maximum from −∞ is a real where some entry falls to the result's entry and all that do are reals. -/
theorem reduce_real {s t u : Shape} {axes : List (Fin s.rank)} (x : FVec Ideal s .f32) (init : FVec Ideal u .f32)
    (h : s.ReducesTo axes t) (hu : 0 < u.numel) (j : t.Idx) (hi : init (Shape.Idx.first hu) = (⊥ : EReal))
    (hne : ∃ i, h.drop i = j) (hx : ∀ i, h.drop i = j → ∃ r : ℝ, x i = (r : EReal)) :
    ∃ r : ℝ, Host.reduce FloatOps.maximumf x init h hu j = (r : EReal) := by
  obtain ⟨i, hij⟩ := hne
  obtain ⟨r, hr⟩ := Softmax.fold_max_coe (Finset.univ.filter fun i => h.drop i = j) ⟨i, by simp [hij]⟩ fun i => EReal.toReal (x i)
  refine ⟨r, ?_⟩
  rw [Host.reduce_eq_fold, hi, ← hr]
  refine Finset.fold_congr fun k hk => ?_
  obtain ⟨q, hq⟩ := hx k (Finset.mem_filter.1 hk).2
  rw [hq, EReal.toReal_coe]

/-- The rows of a matrix stack: the maximum over the last axis is a real where the row's entries are. -/
theorem row_real {A B C : Nat} {u t : Shape} (hC : 0 < C) (x : FVec Ideal ⟨3, ![A, B, C]⟩ .f32) (init : FVec Ideal u .f32)
    (h : (⟨3, ![A, B, C]⟩ : Shape).ReducesTo [2] t) (hu : 0 < u.numel) (j : t.Idx)
    (hi : init (Shape.Idx.first hu) = (⊥ : EReal))
    (hx : ∀ k : Fin C, ∃ r : ℝ, x (ix3 ⟨(j ⟨0, h.lt_r3_a2_0⟩).val, Shape.coordLt _ h.size_r3_a2_0⟩
      ⟨(j ⟨1, h.lt_r3_a2_1⟩).val, Shape.coordLt _ h.size_r3_a2_1⟩ k) = (r : EReal)) :
    ∃ r : ℝ, Host.reduce FloatOps.maximumf x init h hu j = (r : EReal) := by
  refine reduce_real x init h hu j hi ⟨_, (h.fiber_r3_a2 j _).2 ⟨⟨0, hC⟩, rfl⟩⟩ fun i hij => ?_
  obtain ⟨k, rfl⟩ := (h.fiber_r3_a2 j i).1 hij
  exact hx k

/-- A maximum over every axis of a one-row matrix is a real where its entries are. -/
theorem all_real {C : Nat} {u : Shape} (hC : 0 < C) (x : FVec Ideal ⟨2, ![1, C]⟩ .f32) (init : FVec Ideal u .f32)
    (h : (⟨2, ![1, C]⟩ : Shape).ReducesTo [0, 1] ⟨0, ![]⟩) (hu : 0 < u.numel) (j : (⟨0, ![]⟩ : Shape).Idx)
    (hi : init (Shape.Idx.first hu) = (⊥ : EReal)) (hx : ∀ i, ∃ r : ℝ, x i = (r : EReal)) :
    ∃ r : ℝ, Host.reduce FloatOps.maximumf x init h hu j = (r : EReal) :=
  reduce_real x init h hu j hi
    ⟨ix2 0 ⟨0, hC⟩, funext fun a => a.elim0⟩ fun i _ => hx i

end Cert.Maximum

end
-- ==== Proof.HostPart.lean ====
/-
  What the host computes before the kernel's call: the column of inputs beside a column of ones, the two rows of
  coefficients (the slopes and the offsets, each less its own maximum, padded to 128 lanes with zeros), the padded table
  and the matrix of ones. Each is read at an index.
-/
module

public import proofs.«01_k».proof.Defs
public import proofs.«01_k».proof.Proof.Gen.KernelIdeal
public import proofs.«01_k».proof.Proof.Gen.KernelIdeal.Skeleton
public import proofs.«01_k».proof.Proof.Gen.KernelIdeal.Frame
public import proofs.«01_k».proof.Proof.Padded
public import proofs.«01_k».proof.Proof.Maximum
public import Idealize.ShloMosaic.Lib.Pointwise
public import Idealize.ShloMosaic.Lib.StableHlo.ReadAt

@[expose] public section

set_option maxRecDepth 16384

noncomputable section

namespace Cert.HostPart

open Idealize.ShloMosaic Idealize.SL.Sem Cert.KernelIdeal Cert.KernelIdeal.Gen

/-- The slopes: the activation of `W1` times the identity plus `W2`. -/
def slopes (w1 : FVec Ideal S1x100 .f32) (w2 : FVec Ideal S100x100 .f32) : FVec Ideal S1x100 .f32 :=
  Host.dotGeneral dot_S1x100_S100x100_S1x100_1_0_0_1_n_n none
    (select (cmpf .oge w1 (broadcastInDim S1x100 ![] bcast_S_S1x100 (constant S_ .f32 0x00000000#32))) w1
      (mulf (broadcastInDim S1x100 ![] bcast_S_S1x100 (constant S_ .f32 0x3DCCCCCD#32)) w1))
    (addf (mulf (broadcastInDim S100x100 ![] bcast_S_S100x100 (constant S_ .f32 0x3F800000#32))
        (uitofp .f32 (cmpi .eq (addi (iotaInDim S100x100 32 0) (broadcastInDim S100x100 ![] bcast_S_S100x100 (constantI S_ 32 0#32)))
          (iotaInDim S100x100 32 1)))) w2)

/-- A vector of 100 as one row. -/
def asRow (b : FVec Ideal S100 .f32) : FVec Ideal S1x100 .f32 := fun i => b (ix1 (i 1))

/-- A row less its maximum. -/
def centred (v : FVec Ideal S1x100 .f32) : FVec Ideal S1x100 .f32 :=
  subf v (broadcastInDim S1x100 ![] bcast_S_S1x100
    (Host.reduce FloatOps.maximumf v (constant S_ .f32 0xFF800000#32) reducesTo_S1x100_S_d0_1 h_S_))

/-- A row padded with zeros to 128 lanes. -/
def padded (v : FVec Ideal S1x100 .f32) : FVec Ideal S1x128 .f32 :=
  Host.scatter scatter_S1x128_S1_S1x100_01_n_1_0 (fun _ b => b)
    (broadcastInDim S1x128 ![] bcast_S_S1x128 (constant S_ .f32 0x00000000#32))
    (broadcastInDim S1 ![] bcast_S_S1 (constantI S_ 32 0#32)) v

/-- A lane below 100 of the padded row is the row's. -/
theorem padded_lo (v : FVec Ideal S1x100 .f32) (i : Fin 1) (j : Fin 128) (hj : j.val < 100) : padded v (ix2 i j) = v (ix2 i ⟨j.val, hj⟩) := by
  simp only [ix2_eq_valueIdx]
  exact Padded.scatter_inside _ rfl rfl _ _ (fun _ => rfl) v i j i.isLt hj

/-- A lane from 100 on of the padded row is 0. -/
theorem padded_hi (v : FVec Ideal S1x100 .f32) (i : Fin 1) (j : Fin 128) (hj : ¬ j.val < 100) : padded v (ix2 i j) = 0 := by
  simp only [ix2_eq_valueIdx]
  exact (Padded.scatter_right _ rfl rfl _ _ (fun _ => rfl) v i j hj).trans Ideal.ofBits_zero_f32

/-- A row of reals less its maximum: one real is taken from every entry. -/
theorem centred_real (v : FVec Ideal S1x100 .f32) (f : Fin 100 → ℝ) (hv : ∀ j, v (ix2 0 j) = (f j : EReal)) :
    ∃ s : ℝ, ∀ j, centred v (ix2 0 j) = ((f j - s : ℝ) : EReal) := by
  obtain ⟨s, hs⟩ := Maximum.all_real (by decide) v (constant S_ .f32 0xFF800000#32) reducesTo_S1x100_S_d0_1 h_S_ ix0
    (by show Ideal.ofBits .f32 0xFF800000#32 = ⊥; simp [Ideal.ofBits, Ideal.ieee])
    (fun i => by idx_vars i; obtain rfl := Subsingleton.elim i0 0; exact ⟨f i1, hv i1⟩)
  refine ⟨s, fun j => ?_⟩
  unfold centred
  rw [subf_apply, hv, broadcastInDim_apply (k := ix0) (hk := fun a => a.elim0), hs]
  rfl

/-- The identity matrix's entries as the host computes them: 1 where row and column agree, 0 elsewhere. -/
theorem identity_at (k j : Fin 100) :
    (FloatOps.uitofp .f32 (IntOp.cmpi .eq (IntOp.addi (BitVec.ofNat 32 k.val) 0#32) (BitVec.ofNat 32 j.val)) : Ideal .f32)
      = (((if k = j then 1 else 0 : ℝ)) : EReal) := by
  have e : IntOp.cmpi .eq (IntOp.addi (BitVec.ofNat 32 k.val) 0#32) (BitVec.ofNat 32 j.val) = if k = j then 1#1 else 0#1 := by
    revert k j
    decide +kernel
  rw [e]
  split
  · simp [FloatOps.uitofp]
  · simp [FloatOps.uitofp]

/-- A slope: the activation of `W1` times a column of the identity plus `W2`. -/
theorem slopes_at (w1 : FVec Ideal S1x100 .f32) (w2 : FVec Ideal S100x100 .f32) (j : Fin 100) :
    slopes w1 w2 (ix2 0 j) = ∑ k : Fin 100, (if 0 ≤ w1 (ix2 0 k) then w1 (ix2 0 k) else Ideal.ofBits .f32 0x3DCCCCCD#32 * w1 (ix2 0 k))
      * ((((if k = j then 1 else 0 : ℝ)) : EReal) + w2 (ix2 k j)) := by
  pointwise [slopes]
  exact Finset.sum_congr rfl fun k _ => by rw [identity_at]

variable (m : (ℓ : Loc nD τ sig) → Buf (Elt Ideal) ℓ) (c : Dev nD)

/-- Row `i`'s first entry is the input at batch `i / 2048`, position `i % 2048`. -/
theorem inputs_x (i : Fin 131072) : V m c main_v35 (ix2 i 0) = m (c.tc.loc main_arg0) (ix3 ⟨i.val / 2048, by omega⟩ ⟨i.val % 2048, by omega⟩ 0) := by
  unfold V V0
  after_reads_at

/-- Row `i`'s second entry is 1. -/
theorem inputs_one (i : Fin 131072) : V m c main_v35 (ix2 i 1) = (1 : EReal) := by
  unfold V V0
  after_reads_at

set_option maxHeartbeats 2000000 in
/-- The first row of coefficients: the slopes less their maximum, padded. -/
theorem coeff_slopes (j : Fin 128) : V m c main_v28 (ix2 0 j)
    = padded (centred (slopes (m (c.tc.loc main_arg1)) (m (c.tc.loc main_arg3)))) (ix2 0 j) := by
  unfold V V0
  after_reads_at
  rfl

set_option maxHeartbeats 2000000 in
/-- The second row of coefficients: the offsets less their maximum, padded. -/
theorem coeff_offsets (j : Fin 128) : V m c main_v28 (ix2 1 j)
    = padded (centred (asRow (m (c.tc.loc main_arg4)))) (ix2 0 j) := by
  unfold V V0
  after_reads_at
  rfl

/-- The padded table's first 100 rows are the table's. -/
theorem table_lo (i d : Fin 128) (hi : i.val < 100) : V m c main_v31 (ix2 i d) = m (c.tc.loc main_arg5) (ix2 ⟨i.val, hi⟩ d) := by
  unfold V V0
  after_reads_at
  simp only [ix2_eq_valueIdx]
  exact Padded.scatter_inside _ rfl rfl _ _ (fun _ => rfl) _ i d hi d.isLt

/-- The padded table's other rows are 0. -/
theorem table_hi (i d : Fin 128) (hi : ¬ i.val < 100) : V m c main_v31 (ix2 i d) = (0 : EReal) := by
  unfold V V0
  after_reads_at
  simp only [ix2_eq_valueIdx]
  exact (Padded.scatter_below _ rfl rfl _ _ (fun _ => rfl) _ i d hi).trans Ideal.ofBits_zero_f32

/-- The matrix of ones. -/
theorem ones_at (i d : Fin 128) : V m c main_v32 (ix2 i d) = (1 : EReal) := by
  unfold V V0
  after_reads_at

end Cert.HostPart

end
-- ==== Proof.KernelRun.lean ====
/-
  What the kernel's run leaves: the output array holds the quotient of the two lane sums at every index, every block
  written by its own grid point, and the result is that array with its first axis split into batch and position.
-/
module

public import proofs.«01_k».proof.Proof.KernelBlock
public import proofs.«01_k».proof.Proof.HostPart
public import Idealize.ShloMosaic.Lib.Pipeline.ValueKit
public import Idealize.ShloMosaic.Lib.Claim

@[expose] public section

set_option maxRecDepth 16384

noncomputable section

namespace Cert.KernelRun

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (g : Dev nD → PrngReg) (c : Dev nD)

/-- The output array as one function of its index. -/
def G : FVec Ideal S131072x128 .f32 := fun i =>
  KernelBlock.quotient (V m c main_v28) (V m c main_v31) (V m c main_v32) (V m c main_v35 (ix2 (i 0) 0)) (V m c main_v35 (ix2 (i 0) 1)) (i 1)

/-- `G` at row `i`, column `d`. -/
theorem G_at (i : Fin 131072) (d : Fin 128) : G m c (ix2 i d) = KernelBlock.quotient (V m c main_v28) (V m c main_v31)
    (V m c main_v32) (V m c main_v35 (ix2 i 0)) (V m c main_v35 (ix2 i 1)) d := rfl

/-- The inputs' block moves with the grid point. -/
theorem index0 : ∀ t : Fin cfg0.N, win0_0.index t = ![(grid0.coords t 0).val, 0] :=
  (by decide +kernel : ∀ t : Fin grid0.N, win0_0.index t = ![(grid0.coords t 0).val, 0])
/-- The coefficients' block is the whole array at every point. -/
theorem index1 : ∀ t : Fin cfg0.N, win0_1.index t = ![0, 0] := (by decide +kernel : ∀ t : Fin grid0.N, win0_1.index t = ![0, 0])
/-- The padded table's block is the whole array at every point. -/
theorem index2 : ∀ t : Fin cfg0.N, win0_2.index t = ![0, 0] := (by decide +kernel : ∀ t : Fin grid0.N, win0_2.index t = ![0, 0])
/-- The ones' block is the whole array at every point. -/
theorem index3 : ∀ t : Fin cfg0.N, win0_3.index t = ![0, 0] := (by decide +kernel : ∀ t : Fin grid0.N, win0_3.index t = ![0, 0])
/-- The output's block moves with the grid point. -/
theorem index4 : ∀ t : Fin cfg0.N, win0_4.index t = ![(grid0.coords t 0).val, 0] :=
  (by decide +kernel : ∀ t : Fin grid0.N, win0_4.index t = ![(grid0.coords t 0).val, 0])

/-- The coefficients' block, whole. -/
theorem block1 (t : Fin cfg0.N) : iblk m c 1 t = V m c main_v28 := by
  funext y
  blk_simp [iblk]
  exact congrArg _ (by blk_ext [index1])
/-- The padded table's block, whole. -/
theorem block2 (t : Fin cfg0.N) : iblk m c 2 t = V m c main_v31 := by
  funext y
  blk_simp [iblk]
  exact congrArg _ (by blk_ext [index2])
/-- The ones' block, whole. -/
theorem block3 (t : Fin cfg0.N) : iblk m c 3 t = V m c main_v32 := by
  funext y
  blk_simp [iblk]
  exact congrArg _ (by blk_ext [index3])
/-- The inputs' block at a point, at the row the output's block has there. -/
theorem block0 (t : Fin cfg0.N) (r : Fin 2048) (a : Fin 2) (d : Fin 128) :
    iblk m c 0 t (ix2 r a) = V m c main_v35 (ix2 ((win0_4.blk t).view.emb (ix2 r d) 0) a) := by
  blk_simp [iblk]
  exact congrArg _ (by blk_ext [index0, index4])

set_option maxHeartbeats 4000000 in
/-- After the run the output array is `G`. -/
theorem array_eq : (dats m 0 c).arrAt 4 cfg0.N = G m c := by
  refine (dats m 0 c).arrAt_eq_of_covers 4 _ (by decide +kernel) fun t hf y => ?_
  blk_simp
  rw [after0_4]
  frame_out
  idx_vars y
  rw [KernelBlock.stored_at, block1, block2, block3, block0 m c t y0 0 y1, block0 m c t y0 1 y1]
  have e : (win0_4.blk t).view.emb (ix2 y0 y1) 1 = y1 := Fin.ext (by blk_simp [index4])
  exact congrArg _ e.symm

/-- The result: `G` with its rows split into batches of 2048 positions. -/
theorem result_at (b : Fin 64) (l : Fin 2048) (d : Fin 128) :
    Pipeline.afterTail₀ cfgs (dats m) 0 (V0 m) [hostOps1] c main_v37 (ix3 b l d) = G m c (ix2 ⟨b.val * 2048 + l.val, by omega⟩ d) := by
  unfold Pipeline.afterTail₀
  after_reads_at
  exact (congrFun (Pipeline.withArrays_arr _ launch0.win.arr_inj c _ _ 4) _).trans (congrFun (array_eq m c) _)

/-- The run leaves `main_v37` at what the last host line makes of the output array, and every argument as it was. -/
theorem run : θ_run defs (onTc (τ := τ) (main (F := Ideal))) ⟨m, fun _ => 0, g⟩ (fun r => ∀ c : Dev nD,
      r.2.mem (c.tc.loc main_v37) = Pipeline.afterTail₀ cfgs (dats m) 0 (V0 m) [hostOps1] c main_v37
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  (θ_run defs _ _).mono
    (fun _ h c => ⟨(h.1 c).2 main_v37 (Pipeline.mem_restRefs_of main_v37 (by decide) (by decide)), h.2 c⟩)
    (θ_run_and (run_main m g) (unchanged m g))

end Cert.KernelRun

end
-- ==== Proof.Drawn.lean ====
/-
  What the precondition says of the extended reals: the inputs are reals that are not negative, the first bias is 0, and
  both weight arrays and the second bias are reals.
-/
module

public import proofs.«01_k».proof.Defs
public import Idealize.ShloMosaic.Lib.Pointwise

@[expose] public section

noncomputable section

namespace Cert.Drawn

open Idealize.ShloMosaic Idealize.SL.Sem Cert.KernelIdeal

/-- The shape facts that the precondition names. -/
theorem facts : Cert.Pre_drawn.Facts := ⟨by decide, by decide, by decide, by decide⟩

/-- A conjunction of two one-bit words is 1 only if both are. -/
theorem both : ∀ a b : BitVec 1, IntOp.andi a b = 1#1 → a = 1#1 ∧ b = 1#1 := by decide

/-- A one-bit word made from a truth value is 1 exactly if that value is true. -/
theorem ofBool_one : ∀ b : Bool, BitVec.ofBool b = 1#1 ↔ b = true := by decide

/-- An extended real strictly between the two infinities is a real. -/
theorem real_of_between {x : EReal} (h1 : ⊥ < x) (h2 : x < ⊤) : ∃ r : ℝ, x = (r : EReal) :=
  ⟨x.toReal, (EReal.coe_toReal h2.ne h1.ne').symm⟩

/-- The test that an entry is finite, decoded. -/
theorem finite_of {x : EReal} (h : IntOp.andi (Ideal.cmp .ogt x (Ideal.ofBits .f32 0xFF800000#32))
    (Ideal.cmp .olt x (Ideal.ofBits .f32 0x7F800000#32)) = 1#1) : ∃ r : ℝ, x = (r : EReal) := by
  obtain ⟨h1, h2⟩ := both _ _ h
  refine real_of_between ?_ ?_
  · simpa [ofBool_one, Ideal.cmp, Ideal.ofBits, Ideal.ieee] using h1
  · simpa [ofBool_one, Ideal.cmp, Ideal.ofBits, Ideal.ieee] using h2

/-- The test that an entry is finite and not negative, decoded. -/
theorem nonneg_of {x : EReal} (h : IntOp.andi (Ideal.cmp .oge x (Ideal.ofBits .f32 0x00000000#32))
    (Ideal.cmp .olt x (Ideal.ofBits .f32 0x7F800000#32)) = 1#1) : ∃ r : ℝ, 0 ≤ r ∧ x = (r : EReal) := by
  obtain ⟨h1, h2⟩ := both _ _ h
  have h1 : 0 ≤ x := by simpa [ofBool_one, Ideal.cmp, Ideal.ofBits, Ideal.ieee] using h1
  have h2 : x < ⊤ := by simpa [ofBool_one, Ideal.cmp, Ideal.ofBits, Ideal.ieee] using h2
  obtain ⟨r, rfl⟩ := real_of_between (lt_of_lt_of_le EReal.bot_lt_zero h1) h2
  exact ⟨r, EReal.coe_nonneg.1 h1, rfl⟩

/-- The test that an entry is 0, decoded. -/
theorem zero_of {x : EReal} (h : Ideal.cmp .oeq x (Ideal.ofBits .f32 0x00000000#32) = 1#1) : x = 0 := by
  simpa [ofBool_one, Ideal.cmp, Ideal.ofBits, Ideal.ieee] using h

variable (m : (ℓ : Loc nD τ sig) → Buf (Elt Ideal) ℓ) (h : Cert.Pre_KernelIdeal_drawn (hPre_drawn := facts) m) (c : Dev nD)
include h

/-- Every input is a real that is not negative. -/
theorem inputs (i : S64x2048x1.Idx) : ∃ r : ℝ, 0 ≤ r ∧ m (c.tc.loc main_arg0) i = (r : EReal) :=
  nonneg_of (congrFun (h c).1 i)

/-- Every entry of `W1` is a real. -/
theorem first_weights (i : S1x100.Idx) : ∃ r : ℝ, m (c.tc.loc main_arg1) i = (r : EReal) :=
  finite_of (congrFun (h c).2.1 i)

/-- Every entry of `b1` is 0. -/
theorem first_bias (i : S100.Idx) : m (c.tc.loc main_arg2) i = (0 : EReal) :=
  zero_of (congrFun (h c).2.2.1 i)

/-- Every entry of `W2` is a real. -/
theorem second_weights (i : S100x100.Idx) : ∃ r : ℝ, m (c.tc.loc main_arg3) i = (r : EReal) :=
  finite_of (congrFun (h c).2.2.2.1 i)

/-- Every entry of `b2` is a real. -/
theorem second_bias (i : S100.Idx) : ∃ r : ℝ, m (c.tc.loc main_arg4) i = (r : EReal) :=
  finite_of (congrFun (h c).2.2.2.2 i)

end Cert.Drawn

end
-- ==== Proof.RefStages.lean ====
/-
  What the reference computes, cut into stages: the hidden layer, the leaky activation, the logits, their exponentials
  about the row maximum, the weights, the table that the gather reads, and the two masked selections. Each stage is a
  function of the arrays before it; the run's result is their composition.
-/
module

public import proofs.«01_k».proof.Defs
public import proofs.«01_k».proof.Proof.Gen.ReferenceIdeal
public import proofs.«01_k».proof.Proof.Gen.ReferenceIdeal.Run

@[expose] public section

set_option maxRecDepth 16384

noncomputable section

namespace Cert.RefStages

open Idealize.ShloMosaic Idealize.SL.Sem Cert.ReferenceIdeal Cert.ReferenceIdeal.Gen

/-- The hidden layer: `x @ W1 + b1`. -/
def hidden (x : FVec Ideal S64x2048x1 .f32) (w1 : FVec Ideal S1x100 .f32) (b1 : FVec Ideal S100 .f32) : FVec Ideal S64x2048x100 .f32 :=
  addf (Host.dotGeneral dot_S64x2048x1_S1x100_S64x2048x100_2_0_01_1_n_n none x w1)
    (broadcastInDim S64x2048x100 ![0, 1, 2] bcast_S1x1x100_S64x2048x100_0_1_2 (broadcastInDim S1x1x100 ![2] bcast_S100_S1x1x100_2 b1))

/-- The leaky activation: `h` where it is at least 0, a tenth of it elsewhere. -/
def leaky (h : FVec Ideal S64x2048x100 .f32) : FVec Ideal S64x2048x100 .f32 :=
  select (cmpf .oge h (broadcastInDim S64x2048x100 ![] bcast_S_S64x2048x100 (constant S_ .f32 0x00000000#32))) h
    (mulf (broadcastInDim S64x2048x100 ![] bcast_S_S64x2048x100 (id (constant S_ .f32 0x3DCCCCCD#32))) h)

/-- The logits: the activation itself plus `h @ W2 + b2`. -/
def logits (h : FVec Ideal S64x2048x100 .f32) (w2 : FVec Ideal S100x100 .f32) (b2 : FVec Ideal S100 .f32) : FVec Ideal S64x2048x100 .f32 :=
  addf (mulf (broadcastInDim S64x2048x100 ![] bcast_S_S64x2048x100 (constant S_ .f32 0x3F800000#32)) h)
    (addf (Host.dotGeneral dot_S64x2048x100_S100x100_S64x2048x100_2_0_01_1_n_n none h w2)
      (broadcastInDim S64x2048x100 ![0, 1, 2] bcast_S1x1x100_S64x2048x100_0_1_2 (broadcastInDim S1x1x100 ![2] bcast_S100_S1x1x100_2 b2)))

/-- Each row's maximum. -/
def rowMax (z : FVec Ideal S64x2048x100 .f32) : FVec Ideal S64x2048 .f32 :=
  maximumf (broadcastInDim S64x2048 ![] bcast_S_S64x2048 (constant S_ .f32 0xFF800000#32))
    (Host.reduce FloatOps.maximumf z (constant S_ .f32 0xFF800000#32) reducesTo_S64x2048x100_S64x2048_d2 h_S_)

/-- The exponentials of the logits less their row's maximum. -/
def powers (z : FVec Ideal S64x2048x100 .f32) : FVec Ideal S64x2048x100 .f32 :=
  Host.exp (subf z (broadcastInDim S64x2048x100 ![0, 1, 2] bcast_S64x2048x1_S64x2048x100_0_1_2
    (broadcastInDim S64x2048x1 ![0, 1] bcast_S64x2048_S64x2048x1_0_1 (rowMax z))))

/-- The weights: each exponential over its row's sum. -/
def weights (e : FVec Ideal S64x2048x100 .f32) : FVec Ideal S64x2048x100 .f32 :=
  Host.divf e (broadcastInDim S64x2048x100 ![0, 1, 2] bcast_S64x2048x1_S64x2048x100_0_1_2
    (broadcastInDim S64x2048x1 ![0, 1] bcast_S64x2048_S64x2048x1_0_1
      (Host.reduceAdd e (constant S_ .f32 0x00000000#32) reducesTo_S64x2048x100_S64x2048_d2 h_S_)))

/-- The row numbers 0 … 99 as a column, a negative one wrapped by adding 100. -/
def rowIds : IVec S100x1 32 :=
  broadcastInDim S100x1 ![0] bcast_S100_S100x1_0
    (select (cmpi .slt (iotaInDim S100 32 0) (broadcastInDim S100 ![] bcast_S_S100 (constantI S_ 32 0#32)))
      (addi (iotaInDim S100 32 0) (broadcastInDim S100 ![] bcast_S_S100 (constantI S_ 32 100#32))) (iotaInDim S100 32 0))

/-- Whether each row number lies in 0 … 99. -/
def rowIn : IVec S100 1 :=
  Host.reduce IntOp.andi
    (andi (cmpi .sge rowIds (broadcastInDim S100x1 ![] bcast_S_S100x1 (constantI S_ 32 0#32)))
      (cmpi .sle rowIds (broadcastInDim S100x1 ![0, 1] bcast_S1x1_S100x1_0_1 (broadcastInDim S1x1 ![1] bcast_S1_S1x1_1 (constantI S1 32 99#32)))))
    (constantI S_ 1 1#1) reducesTo_S100x1_S100_d1 h_S_

/-- The table read at the row numbers, with a fill where one is out of range. -/
def taken (emb : FVec Ideal S100x128 .f32) : FVec Ideal S100x128 .f32 :=
  select (broadcastInDim S100x128 ![0] bcast_S100_S100x128_0 rowIn)
    (Host.gather gather_S100x128_S100x1_S100x128_1_0_n_n_0_1_1128 emb rowIds)
    (broadcastInDim S100x128 ![] bcast_S_S100x128 (constant S_ .f32 0x7FC00000#32))

/-- Where `x` is the number `w` names, the row `v`; elsewhere `y`. -/
def maskRow (w : BitVec 32) (x : FVec Ideal S64x2048x1 .f32) (v : FVec Ideal S1x128 .f32) (y : FVec Ideal S64x2048x128 .f32) : FVec Ideal S64x2048x128 .f32 :=
  select (broadcastInDim S64x2048x128 ![0, 1, 2] bcast_S64x2048x1_S64x2048x128_0_1_2
      (broadcastInDim S64x2048x1 ![0, 1] bcast_S64x2048_S64x2048x1_0_1
        (cmpf .oeq (shapeCast S64x2048 x shapeCasts_S64x2048x1_S64x2048) (broadcastInDim S64x2048 ![] bcast_S_S64x2048 (constant S_ .f32 w)))))
    (broadcastInDim S64x2048x128 ![2] bcast_S128_S64x2048x128_2 (shapeCast S128 v shapeCasts_S1x128_S128)) y

/-- The weighted mean of the table's rows. -/
def mean (w : FVec Ideal S64x2048x100 .f32) (t : FVec Ideal S100x128 .f32) : FVec Ideal S64x2048x128 .f32 :=
  Host.dotGeneral dot_S64x2048x100_S100x128_S64x2048x128_2_0_01_1_n_n none w t

/-- The whole reference. -/
def whole (x : FVec Ideal S64x2048x1 .f32) (w1 : FVec Ideal S1x100 .f32) (b1 : FVec Ideal S100 .f32) (w2 : FVec Ideal S100x100 .f32)
    (b2 : FVec Ideal S100 .f32) (emb : FVec Ideal S100x128 .f32) (em ep : FVec Ideal S1x128 .f32) : FVec Ideal S64x2048x128 .f32 :=
  maskRow 0xC1A00000#32 x ep (maskRow 0xC1200000#32 x em
    (mean (weights (powers (logits (leaky (hidden x w1 b1)) w2 b2))) (taken emb)))

variable (m : (ℓ : Loc nD τ sig) → Buf (Elt Ideal) ℓ) (c : Dev nD)

/-- The run's result is `whole` of the arguments. -/
theorem result_eq : Value.res_out0 m c = whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  unfold whole maskRow mean weights powers rowMax logits leaky hidden taken rowIn rowIds
  rfl

end Cert.RefStages

end
-- ==== Proof.RefRead.lean ====
/-
  Each stage of the reference, read at an index, with the constants it names as numbers.
-/
module

public import proofs.«01_k».proof.Proof.RefStages
public import proofs.«01_k».proof.Proof.Maximum
public import Idealize.ShloMosaic.Lib.Pointwise
public import Idealize.ShloMosaic.Lib.Routing.Ops

@[expose] public section

set_option maxRecDepth 16384

noncomputable section

namespace Cert.RefStages

open Idealize.ShloMosaic Idealize.SL.Sem Cert.ReferenceIdeal Cert.ReferenceIdeal.Gen

/-- The pattern of minus infinity is the least extended real. -/
theorem bits_bot : Ideal.ofBits .f32 0xFF800000#32 = ⊥ := by simp [Ideal.ofBits, Ideal.ieee]

/-- The pattern of plus infinity is the greatest extended real. -/
theorem bits_top : Ideal.ofBits .f32 0x7F800000#32 = ⊤ := by simp [Ideal.ofBits, Ideal.ieee]

/-- The slope the leaky activation takes below 0: the f32 number nearest a tenth, a real. -/
theorem bits_slope : ∃ a : ℝ, Ideal.ofBits .f32 0x3DCCCCCD#32 = (a : EReal) :=
  ⟨_, by simp [Ideal.ofBits, Ideal.ieee, -EReal.coe_mul]; rfl⟩

/-- The mask token −10 is below 0. -/
theorem bits_mask : Ideal.ofBits .f32 0xC1200000#32 < 0 := by
  simp only [Ideal.ofBits, Ideal.ieee]
  norm_num [show BitVec.extractLsb' 31 1 3240099840#32 = 1#1 by decide, show 3240099840 >>> 23 % 256 = 130 by decide]

/-- The padding token −20 is below 0. -/
theorem bits_padding : Ideal.ofBits .f32 0xC1A00000#32 < 0 := by
  simp only [Ideal.ofBits, Ideal.ieee]
  norm_num [show BitVec.extractLsb' 31 1 3248488448#32 = 1#1 by decide, show 3248488448 >>> 23 % 256 = 131 by decide]

variable (b : Fin 64) (l : Fin 2048) (j : Fin 100) (d : Fin 128)

/-- The hidden layer at an index: one product plus the bias. -/
theorem hidden_at (x : FVec Ideal S64x2048x1 .f32) (w1 : FVec Ideal S1x100 .f32) (b1 : FVec Ideal S100 .f32) :
    hidden x w1 b1 (ix3 b l j) = x (ix3 b l 0) * w1 (ix2 0 j) + b1 (ix1 j) := by
  pointwise [hidden]
  simp

/-- The activation at an index. -/
theorem leaky_at (h : FVec Ideal S64x2048x100 .f32) :
    leaky h (ix3 b l j) = if 0 ≤ h (ix3 b l j) then h (ix3 b l j) else Ideal.ofBits .f32 0x3DCCCCCD#32 * h (ix3 b l j) := by
  pointwise [leaky]
  rfl

/-- A logit. -/
theorem logits_at (h : FVec Ideal S64x2048x100 .f32) (w2 : FVec Ideal S100x100 .f32) (b2 : FVec Ideal S100 .f32) :
    logits h w2 b2 (ix3 b l j) = h (ix3 b l j) + (∑ k : Fin 100, h (ix3 b l k) * w2 (ix2 k j) + b2 (ix1 j)) := by
  pointwise [logits]

/-- The maximum of a row of reals is a real. -/
theorem rowMax_at (z : FVec Ideal S64x2048x100 .f32) (f : Fin 100 → ℝ) (hz : ∀ k, z (ix3 b l k) = (f k : EReal)) :
    ∃ t : ℝ, rowMax z (ix2 b l) = (t : EReal) := by
  obtain ⟨t, ht⟩ := Maximum.row_real (by decide) z (constant S_ .f32 0xFF800000#32) reducesTo_S64x2048x100_S64x2048_d2 h_S_
    (ix2 b l) bits_bot fun k => ⟨f k, hz k⟩
  refine ⟨t, ?_⟩
  unfold rowMax
  rw [maximumf_apply, ht]
  exact (congrArg (fun y : EReal => max y (t : EReal)) bits_bot).trans (max_bot_left _)

/-- The exponential of a logit less its row's maximum. -/
theorem powers_at (z : FVec Ideal S64x2048x100 .f32) :
    powers z (ix3 b l j) = Ideal.exp (z (ix3 b l j) - rowMax z (ix2 b l)) := by
  pointwise [powers]

/-- A weight. -/
theorem weights_at (e : FVec Ideal S64x2048x100 .f32) :
    weights e (ix3 b l j) = Ideal.div (e (ix3 b l j)) (∑ k : Fin 100, e (ix3 b l k)) := by
  pointwise [weights]

/-- The weighted mean at an index. -/
theorem mean_at (w : FVec Ideal S64x2048x100 .f32) (t : FVec Ideal S100x128 .f32) :
    mean w t (ix3 b l d) = ∑ k : Fin 100, w (ix3 b l k) * t (ix2 k d) := by
  pointwise [mean]

/-- The masked selection keeps `y` where `x` is not the token. -/
theorem maskRow_at (w : BitVec 32) (x : FVec Ideal S64x2048x1 .f32) (v : FVec Ideal S1x128 .f32) (y : FVec Ideal S64x2048x128 .f32)
    (hx : x (ix3 b l 0) ≠ Ideal.ofBits .f32 w) : maskRow w x v y (ix3 b l d) = y (ix3 b l d) := by
  pointwise [maskRow]
  exact if_neg hx

/-- The row numbers are 0 … 99. -/
theorem rowIds_at : rowIds (ix2 j 0) = BitVec.ofNat 32 j.val := by
  pointwise [rowIds]
  revert j
  decide +kernel

/-- Every row number is in range. -/
theorem rowIn_at : rowIn (ix1 j) = 1#1 := by
  pointwise [rowIn]
  simp only [Finset.univ_unique, Finset.fold_singleton, Fin.default_eq_zero, rowIds_at]
  revert j
  decide +kernel

/-- The table read at 0 … 99 is the table. -/
theorem taken_at (emb : FVec Ideal S100x128 .f32) : taken emb (ix2 j d) = emb (ix2 j d) := by
  pointwise [taken]
  rw [rowIn_at]
  simp only [ix2_eq_valueIdx]
  exact Routing.gather_row _ rfl rfl rfl rfl rfl emb rowIds j d j (by rw [← ix2_eq_valueIdx]; exact rowIds_at j) (by decide)

end Cert.RefStages

end
-- ==== Proof.Equation.lean ====
/-
  The equation. With the input of a row a real X that is not negative, both programs' logits differ by one real: the
  reference's lane j has X · v(j) + b2(j), the kernel's exponent is that less X · max v + max b2, and its lanes from 100
  on have exponent −∞, so contribute 0. The two weighted means then agree by the law of shifted logits.
-/
module

public import proofs.«01_k».proof.Proof.RefRead
public import proofs.«01_k».proof.Proof.KernelBlock
public import proofs.«01_k».proof.Proof.HostPart

@[expose] public section

set_option maxRecDepth 16384

noncomputable section

namespace Cert.Equation

open Idealize.ShloMosaic

/-- The activation of a real, with slope `a` below 0. -/
def act (a r : ℝ) : ℝ := if 0 ≤ r then r else a * r

/-- A lane's slope: the activations of `A` times a column of the identity plus `W`. -/
def slope (a : ℝ) (A : Fin 100 → ℝ) (W : Fin 100 → Fin 100 → ℝ) (j : Fin 100) : ℝ :=
  ∑ k, act a (A k) * ((if k = j then 1 else 0) + W k j)

/-- The activation of a product with a factor that is not negative: the factor comes out. -/
theorem act_mul (a X r : ℝ) (hX : 0 ≤ X) : act a (X * r) = X * act a r := by
  unfold act
  rcases hX.eq_or_lt with rfl | hX
  · simp
  · simp only [mul_nonneg_iff_of_pos_left hX]
    split
    · rfl
    · ring

/-- The activation as both programs compute it on a real. -/
theorem act_coe (a r : ℝ) : (if (0 : EReal) ≤ (r : EReal) then (r : EReal) else (a : EReal) * (r : EReal)) = (act a r : EReal) := by
  unfold act
  simp only [EReal.coe_nonneg]
  split
  · rfl
  · rw [EReal.coe_mul]

section Reference

open Cert.ReferenceIdeal Cert.RefStages

variable (a X : ℝ) (ha : Ideal.ofBits .f32 0x3DCCCCCD#32 = (a : EReal)) (hX : 0 ≤ X)
variable (A B : Fin 100 → ℝ) (W : Fin 100 → Fin 100 → ℝ)
variable (x : FVec Ideal S64x2048x1 .f32) (w1 : FVec Ideal S1x100 .f32) (b1 : FVec Ideal S100 .f32) (w2 : FVec Ideal S100x100 .f32)
  (b2 : FVec Ideal S100 .f32) (emb : FVec Ideal S100x128 .f32) (em ep : FVec Ideal S1x128 .f32) (b : Fin 64) (l : Fin 2048)
variable (hx : x (ix3 b l 0) = (X : EReal)) (hw1 : ∀ k, w1 (ix2 0 k) = (A k : EReal)) (hb1 : ∀ k, b1 (ix1 k) = (0 : EReal))
  (hw2 : ∀ k j, w2 (ix2 k j) = (W k j : EReal)) (hb2 : ∀ j, b2 (ix1 j) = (B j : EReal))

include ha hX hx hw1 hb1 in
/-- The reference's activation in a lane. -/
theorem leaky_real (k : Fin 100) : leaky (hidden x w1 b1) (ix3 b l k) = ((X * act a (A k) : ℝ) : EReal) := by
  rw [leaky_at, hidden_at, hx, hw1, hb1, add_zero, ← EReal.coe_mul, ha, act_coe, act_mul a X _ hX]

include ha hX hx hw1 hb1 hw2 hb2 in
/-- The reference's logit in a lane. -/
theorem logit_real (j : Fin 100) :
    logits (leaky (hidden x w1 b1)) w2 b2 (ix3 b l j) = ((X * slope a A W j + B j : ℝ) : EReal) := by
  rw [logits_at, hb2]
  simp only [leaky_real a X ha hX A x w1 b1 b l hx hw1 hb1, hw2, ← EReal.coe_mul]
  rw [Softmax.coe_sum, ← EReal.coe_add, ← EReal.coe_add]
  congr 1
  unfold slope
  simp only [mul_add, Finset.sum_add_distrib, mul_ite, mul_one, mul_zero, Finset.sum_ite_eq', Finset.mem_univ, if_true, Finset.mul_sum]
  simp only [← mul_assoc, add_assoc]

include ha hX hx hw1 hb1 hw2 hb2 in
/-- The reference's result: the mean of the table's rows by the weights of the logits about some real. -/
theorem reference_at (d : Fin 128) : ∃ t : ℝ, whole x w1 b1 w2 b2 emb em ep (ix3 b l d)
    = ∑ j : Fin 100, Ideal.div (Ideal.exp ((X * slope a A W j + B j - t : ℝ) : EReal))
        (∑ k : Fin 100, Ideal.exp ((X * slope a A W k + B k - t : ℝ) : EReal)) * emb (ix2 j d) := by
  have z := logit_real a X ha hX A B W x w1 b1 w2 b2 b l hx hw1 hb1 hw2 hb2
  obtain ⟨t, ht⟩ := rowMax_at b l _ _ z
  refine ⟨t, ?_⟩
  have p : ∀ w, Ideal.ofBits .f32 w < 0 → x (ix3 b l 0) ≠ Ideal.ofBits .f32 w := fun w hw e =>
    absurd (e ▸ hw) (not_lt.2 (hx ▸ EReal.coe_nonneg.2 hX))
  unfold whole
  rw [maskRow_at _ _ _ _ _ _ _ (p _ bits_padding), maskRow_at _ _ _ _ _ _ _ (p _ bits_mask), mean_at]
  simp only [weights_at, powers_at, taken_at, z, ht, ← EReal.coe_sub]

end Reference

section Kernel

open Cert.KernelIdeal Cert.HostPart Cert.KernelBlock

/-- A sum over 128 lanes whose last 28 terms are 0 is the sum over the first 100. -/
theorem sum_lanes (f : Fin 128 → EReal) (g : Fin 100 → EReal) (lo : ∀ j : Fin 100, f ⟨j.val, by omega⟩ = g j)
    (hi : ∀ k : Fin 128, ¬ k.val < 100 → f k = 0) : ∑ k, f k = ∑ j, g j := by
  have e := Fin.sum_univ_add (a := 100) (b := 28) f
  refine e.trans ?_
  rw [Finset.sum_eq_zero (s := (Finset.univ : Finset (Fin 28))) fun k _ => hi _ (by simp), add_zero]
  exact Finset.sum_congr rfl fun j _ => lo j

variable (a X : ℝ) (ha : Ideal.ofBits .f32 0x3DCCCCCD#32 = (a : EReal)) (A B : Fin 100 → ℝ) (W : Fin 100 → Fin 100 → ℝ)
variable (w1 : FVec Ideal S1x100 .f32) (w2 : FVec Ideal S100x100 .f32) (b2 : FVec Ideal S100 .f32) (emb : FVec Ideal S100x128 .f32)
variable (hw1 : ∀ k, w1 (ix2 0 k) = (A k : EReal)) (hw2 : ∀ k j, w2 (ix2 k j) = (W k j : EReal)) (hb2 : ∀ j, b2 (ix1 j) = (B j : EReal))
variable (C : FVec Ideal S2x128 .f32) (E O : FVec Ideal S128x128 .f32)
variable (hC0 : ∀ k, C (ix2 0 k) = padded (centred (slopes w1 w2)) (ix2 0 k)) (hC1 : ∀ k, C (ix2 1 k) = padded (centred (asRow b2)) (ix2 0 k))
  (hE : ∀ (j : Fin 100) (d : Fin 128), E (ix2 ⟨j.val, by omega⟩ d) = emb (ix2 j d)) (hE0 : ∀ k d : Fin 128, ¬ k.val < 100 → E (ix2 k d) = (0 : EReal))
  (hO : ∀ k d : Fin 128, O (ix2 k d) = (1 : EReal))

include ha hw1 hw2 in
/-- The host's slopes are the real slopes. -/
theorem slopes_real (j : Fin 100) : slopes w1 w2 (ix2 0 j) = (slope a A W j : EReal) := by
  rw [slopes_at]
  exact (Finset.sum_congr rfl fun k _ => by rw [hw1, hw2, ha, act_coe, ← EReal.coe_add, ← EReal.coe_mul]).trans (Softmax.coe_sum _ _)

include ha hw1 hw2 hb2 hC0 hC1 in
/-- The kernel's exponents: the logits less one real in the first 100 lanes, −∞ in the others. -/
theorem exponents : ∃ s : ℝ, (∀ j : Fin 100, exponent C (X : EReal) 1 ⟨j.val, by omega⟩ = ((X * slope a A W j + B j - s : ℝ) : EReal))
    ∧ ∀ k : Fin 128, ¬ k.val < 100 → exponent C (X : EReal) 1 k = ⊥ := by
  obtain ⟨s, hs⟩ := centred_real (slopes w1 w2) _ (slopes_real a ha A W w1 w2 hw1 hw2)
  obtain ⟨t, ht⟩ := centred_real (asRow b2) B hb2
  refine ⟨X * s + t, fun j => ?_, fun k hk => ?_⟩
  · unfold exponent
    rw [if_pos j.isLt, hC0, hC1, padded_lo _ _ _ j.isLt, padded_lo _ _ _ j.isLt, hs, ht, one_mul, ← EReal.coe_mul, ← EReal.coe_add]
    congr 1
    ring
  · unfold exponent
    rw [if_neg hk, one_mul, EReal.add_bot]

include ha hw1 hw2 hb2 hC0 hC1 hE hE0 hO in
/-- The kernel's value: the quotient of the two sums over 100 lanes, the logits taken about some real. -/
theorem kernel_at (d : Fin 128) : ∃ s : ℝ, quotient C E O (X : EReal) 1 d
    = Ideal.div (∑ j : Fin 100, Ideal.exp ((X * slope a A W j + B j - s : ℝ) : EReal) * emb (ix2 j d))
        (∑ j : Fin 100, Ideal.exp ((X * slope a A W j + B j - s : ℝ) : EReal)) := by
  obtain ⟨s, lo, hi⟩ := exponents a X ha A B W w1 w2 b2 hw1 hw2 hb2 C hC0 hC1
  refine ⟨s, ?_⟩
  unfold quotient
  congr 1
  · exact sum_lanes _ _ (fun j => by rw [lo, hE]) fun k hk => by rw [hE0 k d hk, mul_zero]
  · exact sum_lanes _ _ (fun j => by rw [lo, hO, mul_one]) fun k hk => by rw [hi k hk, Ideal.exp_bot, zero_mul]

end Kernel

end Cert.Equation

end
-- ==== Proof.Value.lean ====
/-
  The value claim. From one argument array each, under the precondition, both runs leave the same result: the kernel's
  result is read block by block, the reference's stage by stage, and the two meet at every index.
-/
module

public import proofs.«01_k».proof.Proof.KernelRun
public import proofs.«01_k».proof.Proof.Drawn
public import proofs.«01_k».proof.Proof.Equation

@[expose] public section

set_option maxRecDepth 16384

noncomputable section

namespace Cert.Value

open Idealize.ShloMosaic Idealize.SL.Sem Cert.KernelIdeal Cert.KernelIdeal.Gen

variable (m : (ℓ : Loc nD τ sig) → Buf (Elt Ideal) ℓ) (h : Cert.Pre_KernelIdeal_drawn (hPre_drawn := Drawn.facts) m) (c : Dev nD)

/-- The reference's result at the kernel's arguments. -/
def expected : FVec Ideal S64x2048x128 .f32 :=
  RefStages.whole (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))

/-- Row `b * 2048 + l` splits into batch `b` and position `l`. -/
theorem split_row (b : Fin 64) (l : Fin 2048) :
    (ix3 (⟨(b.val * 2048 + l.val) / 2048, by omega⟩ : Fin 64) (⟨(b.val * 2048 + l.val) % 2048, by omega⟩ : Fin 2048) (0 : Fin 1)
      : S64x2048x1.Idx) = ix3 b l 0 := by
  rw [show (⟨(b.val * 2048 + l.val) / 2048, by omega⟩ : Fin 64) = b from Fin.ext (by simp only; omega),
    show (⟨(b.val * 2048 + l.val) % 2048, by omega⟩ : Fin 2048) = l from Fin.ext (by simp only; omega)]

include h in
/-- The two results agree at every index. -/
theorem agree_at (b : Fin 64) (l : Fin 2048) (d : Fin 128) :
    Pipeline.afterTail₀ cfgs (dats m) 0 (V0 m) [hostOps1] c main_v37 (ix3 b l d) = expected m c (ix3 b l d) := by
  obtain ⟨a, ha⟩ := RefStages.bits_slope
  obtain ⟨X, hX, hx⟩ := Drawn.inputs m h c (ix3 b l 0)
  choose A hA using fun k : Fin 100 => Drawn.first_weights m h c (ix2 0 k)
  choose W hW using fun k j : Fin 100 => Drawn.second_weights m h c (ix2 k j)
  choose B hB using fun j : Fin 100 => Drawn.second_bias m h c (ix1 j)
  obtain ⟨t, ht⟩ := Equation.reference_at a X ha hX A B W _ _ _ _ _ (m (c.tc.loc main_arg5)) (m (c.tc.loc main_arg6))
    (m (c.tc.loc main_arg7)) b l hx hA (fun k => Drawn.first_bias m h c (ix1 k)) hW hB d
  obtain ⟨s, hs⟩ := Equation.kernel_at a X ha A B W _ _ _ _ hA hW hB _ _ _ (HostPart.coeff_slopes m c) (HostPart.coeff_offsets m c)
    (fun j d => HostPart.table_lo m c ⟨j.val, by omega⟩ d j.isLt) (HostPart.table_hi m c) (HostPart.ones_at m c) d
  have e : V m c main_v35 (ix2 ⟨b.val * 2048 + l.val, by omega⟩ 0) = (X : EReal) :=
    (HostPart.inputs_x m c _).trans ((congrArg (m (c.tc.loc main_arg0)) (split_row b l)).trans hx)
  rw [KernelRun.result_at]
  refine Eq.trans ?_ ht.symm
  refine Eq.trans ?_ (Softmax.shift (by decide) (fun j => X * Equation.slope a A W j + B j) s t _)
  refine Eq.trans ?_ hs
  rw [KernelRun.G_at, e, HostPart.inputs_one]

include h in
/-- The two results are one array. -/
theorem agree : Pipeline.afterTail₀ cfgs (dats m) 0 (V0 m) [hostOps1] c main_v37 = expected m c := by
  funext i
  idx_vars i
  exact agree_at m h c _ _ _

end Cert.Value

end
-- ==== Proof.lean ====
/-
  The certificate: the three frames, the idealization of the kernel, and the value claim, under the precondition where it
  is named.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The reference runs, leaves its arguments as they were and every semaphore at 0. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named mask: −1e30 is replaced by −∞. -/
theorem preserves : Cert.preserves_Kernel_KernelIdeal :=
  IdealRules.named_const.statement Cert.KernelIdeal.κ "mask" .f32 0xF149F2CA#32 ⊥ rfl

/-- Under the precondition both runs leave one result. -/
theorem algebraic : Cert.algebraic_KernelIdeal_ReferenceIdeal_pre_drawn (hKernelIdeal := Cert.KernelIdeal.Gen.facts)
    (hReferenceIdeal := Cert.ReferenceIdeal.Gen.facts) (hPre_drawn := Drawn.facts) := fun m g m' g' hpre hargs =>
  ⟨fun c => Value.expected m c,
    (θ_run Cert.KernelIdeal.defs _ _).mono (fun _ h c => ⟨((h c).1).trans (Value.agree m hpre c), (h c).2⟩) (KernelRun.run m g),
    (θ_run Cert.ReferenceIdeal.defs _ _).mono
      (fun _ h c => ⟨((h c).1).trans (by
        obtain ⟨e0, e1, e2, e3, e4, e5, e6, e7⟩ := hargs c
        refine (RefStages.result_eq m' c).trans ?_
        rw [e0, e1, e2, e3, e4, e5, e6, e7]
        rfl), (h c).2⟩)
      (Cert.ReferenceIdeal.Value.run (F := Ideal) m' g')⟩

/-- Everything claimed. -/
theorem claim : Cert.Claim := ⟨Cert.Kernel.Gen.facts, Cert.KernelIdeal.Gen.facts, Cert.ReferenceIdeal.Gen.facts, Drawn.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, preserves, algebraic⟩

end Cert.Proof

end
